-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x2048x2048 : Shape := ⟨3, ![4, 2048, 2048]⟩
abbrev S16x2048 : Shape := ⟨2, ![16, 2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S16x2048 : S_.BroadcastsInDim S16x2048 (![] : Fin 0 → Fin S16x2048.rank)
  reducesTo_S16x2048_S_d0_1 : S16x2048.ReducesTo [0, 1] S_

variable [Facts]

def fn {F : FTy → Type} [FloatOps F] (main_arg0 : FVec F S4x2048x2048 .f32) (main_arg1 : FVec F S16x2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S16x2048 .f32 := Host.absf main_arg1
  let main_cst_0 : FVec F S_ .f32 := constant S_ .f32 0x7F800000#32
  let main_v5 : FVec F S16x2048 .f32 := broadcastInDim S16x2048 ![] bcast_S_S16x2048 main_cst_0
  let main_v6 : IVec S16x2048 1 := cmpf .olt main_v4 main_v5
  let main_c_1 : IVec S_ 1 := constantI S_ 1 1#1
  let main_v7 : IVec S_ 1 := (fun x v => Host.reduce IntOp.andi x v reducesTo_S16x2048_S_d0_1 h_S_) main_v6 main_c_1
  let main_v8 : IVec S_ 1 := andi main_v3 main_v7
  main_v8
-- ==== Kernel.lean ====
abbrev S4x2048x2048 : Shape := ⟨3, ![4, 2048, 2048]⟩
abbrev S16x2048 : Shape := ⟨2, ![16, 2048]⟩
abbrev S8192x2048 : Shape := ⟨2, ![8192, 2048]⟩
abbrev S4096x2 : Shape := ⟨2, ![4096, 2]⟩
abbrev S1024x2048 : Shape := ⟨2, ![1024, 2048]⟩
abbrev S1024x2 : Shape := ⟨2, ![1024, 2]⟩
abbrev S1024x16 : Shape := ⟨2, ![1024, 16]⟩
abbrev S1024 : Shape := ⟨1, ![1024]⟩
abbrev S1024x1 : Shape := ⟨2, ![1024, 1]⟩
abbrev S8192x2 : Shape := ⟨2, ![8192, 2]⟩
abbrev S4x2048x2 : Shape := ⟨3, ![4, 2048, 2]⟩

abbrev nBuf : Space → Nat
  | .hbm => 11
  | .vmem => 13
  | .smem => 0
  | _ => 0

abbrev bufTy : (tb : Table) → Fin (tcTables nBuf tb) → BufTy
  | .hbm, ⟨0, _⟩ => ⟨S4x2048x2048, .f32⟩
  | .hbm, ⟨1, _⟩ => ⟨S16x2048, .f32⟩
  | .hbm, ⟨2, _⟩ => ⟨S8192x2048, .f32⟩
  | .hbm, ⟨3, _⟩ => ⟨S4096x2, .i32⟩
  | .hbm, ⟨4, _⟩ => ⟨S4096x2, .i32⟩
  | .hbm, ⟨5, _⟩ => ⟨S4096x2, .f32⟩
  | .hbm, ⟨6, _⟩ => ⟨S4096x2, .f32⟩
  | .hbm, ⟨7, _⟩ => ⟨S8192x2, .i32⟩
  | .hbm, ⟨8, _⟩ => ⟨S4x2048x2, .i32⟩
  | .hbm, ⟨9, _⟩ => ⟨S8192x2, .f32⟩
  | .hbm, ⟨10, _⟩ => ⟨S4x2048x2, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S16x2048, .f32⟩
  | .local _ .vmem, ⟨5, _⟩ => ⟨S1024x2, .i32⟩
  | .local _ .vmem, ⟨6, _⟩ => ⟨S1024x2, .i32⟩
  | .local _ .vmem, ⟨7, _⟩ => ⟨S1024x2, .i32⟩
  | .local _ .vmem, ⟨8, _⟩ => ⟨S1024x2, .i32⟩
  | .local _ .vmem, ⟨9, _⟩ => ⟨S1024x2, .f32⟩
  | .local _ .vmem, ⟨10, _⟩ => ⟨S1024x2, .f32⟩
  | .local _ .vmem, ⟨11, _⟩ => ⟨S1024x2, .f32⟩
  | .local _ .vmem, ⟨12, _⟩ => ⟨S1024x2, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x2 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x2 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4x2048x2048 : Shape := ⟨3, ![4, 2048, 2048]⟩
abbrev S16x2048 : Shape := ⟨2, ![16, 2048]⟩
abbrev S4x2048x16 : Shape := ⟨3, ![4, 2048, 16]⟩
abbrev S_ : Shape := ⟨0, ![]⟩
abbrev S4x2048 : Shape := ⟨2, ![4, 2048]⟩
abbrev S4x2048x1 : Shape := ⟨3, ![4, 2048, 1]⟩
abbrev S4x2048x2 : Shape := ⟨3, ![4, 2048, 2]⟩

abbrev nBuf : Space → Nat
  | .hbm => 28
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S16x2048, .f32⟩
  | .hbm, ⟨2, _⟩ => ⟨S4x2048x16, .f32⟩
  | .hbm, ⟨3, _⟩ => ⟨S_, .f32⟩
  | .hbm, ⟨4, _⟩ => ⟨S4x2048, .f32⟩
  | .hbm, ⟨5, _⟩ => ⟨S_, .f32⟩
  | .hbm, ⟨6, _⟩ => ⟨S4x2048, .f32⟩
  | .hbm, ⟨7, _⟩ => ⟨S4x2048, .f32⟩
  | .hbm, ⟨8, _⟩ => ⟨S4x2048x1, .f32⟩
  | .hbm, ⟨9, _⟩ => ⟨S4x2048x16, .f32⟩
  | .hbm, ⟨10, _⟩ => ⟨S4x2048x16, .f32⟩
  | .hbm, ⟨11, _⟩ => ⟨S4x2048x16, .f32⟩
  | .hbm, ⟨12, _⟩ => ⟨S_, .f32⟩
  | .hbm, ⟨13, _⟩ => ⟨S4x2048, .f32⟩
  | .hbm, ⟨14, _⟩ => ⟨S4x2048x1, .f32⟩
  | .hbm, ⟨15, _⟩ => ⟨S4x2048x16, .f32⟩
  | .hbm, ⟨16, _⟩ => ⟨S4x2048x16, .f32⟩
  | .hbm, ⟨17, _⟩ => ⟨S4x2048x2, .f32⟩
  | .hbm, ⟨18, _⟩ => ⟨S4x2048x2, .i32⟩
  | .hbm, ⟨19, _⟩ => ⟨S_, .f32⟩
  | .hbm, ⟨20, _⟩ => ⟨S4x2048, .f32⟩
  | .hbm, ⟨21, _⟩ => ⟨S4x2048x1, .f32⟩
  | .hbm, ⟨22, _⟩ => ⟨S_, .f32⟩
  | .hbm, ⟨23, _⟩ => ⟨S_, .f32⟩
  | .hbm, ⟨24, _⟩ => ⟨S4x2048x1, .f32⟩
  | .hbm, ⟨25, _⟩ => ⟨S4x2048x1, .f32⟩
  | .hbm, ⟨26, _⟩ => ⟨S4x2048x2, .f32⟩
  | .hbm, ⟨27, _⟩ => ⟨S4x2048x2, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_values : Ref sig .tc := ⟨.hbm, 17, rfl⟩
abbrev main_indices : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]
-- ==== Proof.Top2.lean ====
/-
  The mathematics of one row, with no program in sight: the two greatest of `n` extended reals, ties to the lower
  position.

  * `Before f a b`: position `a` is listed before position `b` when the entries of `f` are listed greatest first.
  * `IsFirst f a`, `IsSecond f a b`: `a` heads that list, `b` follows it.
  * a stable sort under "greater first" puts these two positions at its entries 0 and 1;
  * the lowest lane that holds the maximum is the first position, and once that lane is overwritten by `⊥`, the lowest
    lane that holds the new maximum is the second.
-/
module

public import Idealize.ShloMosaic.Lib.SortFacts
public import Idealize.ShloMosaic.Lib.SortNet.Extract
public import Idealize.ShloMosaic.PureOps.Ideal
public import Idealize.ShloMosaic.PureOps.Reduce

@[expose] public section

noncomputable section

namespace Top2

open Idealize.ShloMosaic

variable {n : Nat}

/-- Position `a` is listed before position `b`: its entry is the greater, or the two are equal and `a` is the lower. -/
def Before (f : Fin n → EReal) (a b : Fin n) : Prop := f b < f a ∨ (f a = f b ∧ a < b)

/-- `a` is listed before every other position. -/
def IsFirst (f : Fin n → EReal) (a : Fin n) : Prop := ∀ b, b ≠ a → Before f a b

/-- `b` is listed before every other position but `a`. -/
def IsSecond (f : Fin n → EReal) (a b : Fin n) : Prop := b ≠ a ∧ ∀ c, c ≠ a → c ≠ b → Before f b c

/-- The list order is transitive. -/
theorem Before.trans {f : Fin n → EReal} {a b c : Fin n} (h : Before f a b) (h' : Before f b c) : Before f a c := by
  rcases h with h | ⟨h, hab⟩ <;> rcases h' with h' | ⟨h', hbc⟩
  · exact .inl (h'.trans h)
  · exact .inl (h' ▸ h)
  · exact .inl (h ▸ h')
  · exact .inr ⟨h.trans h', hab.trans hbc⟩

/-! ## The stable sort -/

/-- "Greater first", as a sort's comparator reads it. -/
abbrev gt (f : Fin n → EReal) (a b : Fin n) : Bool := decide (f b < f a)

/-- Inserting a position lower than all of a listed list keeps it listed. -/
theorem pairwise_insertBefore (f : Fin n → EReal) (a : Fin n) (l : List (Fin n)) (ha : ∀ b ∈ l, a < b)
    (hl : l.Pairwise (Before f)) : (insertBefore (gt f) a l).Pairwise (Before f) := by
  induction l with
  | nil => exact List.pairwise_singleton _ _
  | cons b l ih =>
    have hb := List.pairwise_cons.mp hl
    unfold insertBefore
    split
    · rename_i h
      refine List.pairwise_cons.mpr ⟨fun c hc => ?_, ih (fun c hc => ha c (List.mem_cons_of_mem _ hc)) hb.2⟩
      rcases List.mem_cons.mp ((perm_insertBefore (gt f) a l).mem_iff.mp hc) with rfl | hc'
      · exact .inl (of_decide_eq_true h)
      · exact hb.1 c hc'
    · rename_i h
      have hab : Before f a b := by
        have hle : f b ≤ f a := not_lt.mp fun hlt => h (decide_eq_true hlt)
        rcases hle.lt_or_eq with hlt | heq
        · exact .inl hlt
        · exact .inr ⟨heq.symm, ha b List.mem_cons_self⟩
      refine List.pairwise_cons.mpr ⟨fun c hc => ?_, hl⟩
      rcases List.mem_cons.mp hc with rfl | hc'
      · exact hab
      · exact hab.trans (hb.1 c hc')

/-- The stable sort of an increasing list of positions lists them. -/
theorem pairwise_stableSort (f : Fin n → EReal) (l : List (Fin n)) (hl : l.Pairwise (· < ·)) :
    (stableSort (gt f) l).Pairwise (Before f) := by
  induction l with
  | nil => exact List.Pairwise.nil
  | cons a l ih =>
    have ha := List.pairwise_cons.mp hl
    unfold stableSort
    exact pairwise_insertBefore f a _ (fun b hb => ha.1 b ((perm_stableSort (gt f) l).mem_iff.mp hb)) (ih ha.2)

/-- An earlier entry of the sort is listed before a later one. -/
theorem before_sortedFrom (f : Fin n → EReal) {i j : Fin n} (hij : i < j) :
    Before f (sortedFrom (gt f) i) (sortedFrom (gt f) j) := by
  have hp : ∀ a b : Fin (sortPositions n (gt f)).length, a < b →
      Before f ((sortPositions n (gt f)).get a) ((sortPositions n (gt f)).get b) :=
    List.pairwise_iff_get.mp (pairwise_stableSort f _ (List.pairwise_lt_finRange n))
  unfold sortedFrom
  exact hp _ _ hij

/-- Entry 0 of the sort is the first position. -/
theorem isFirst_sortedFrom (f : Fin n → EReal) (z : Fin n) (hz : z.val = 0) : IsFirst f (sortedFrom (gt f) z) := by
  intro b hb
  obtain ⟨k, rfl⟩ := sortedFrom_surjective (gt f) b
  refine before_sortedFrom f (lt_of_le_of_ne (Fin.le_def.mpr (by omega)) fun h => hb (by rw [h]))

/-- Entry 1 of the sort is the second position. -/
theorem isSecond_sortedFrom (f : Fin n → EReal) (z o : Fin n) (hz : z.val = 0) (ho : o.val = 1) :
    IsSecond f (sortedFrom (gt f) z) (sortedFrom (gt f) o) := by
  refine ⟨fun h => ?_, fun c hc hc' => ?_⟩
  · have := congrArg Fin.val (sortedFrom_injective _ h); omega
  · obtain ⟨k, rfl⟩ := sortedFrom_surjective (gt f) c
    have h0 : k.val ≠ 0 := fun h => hc (by rw [show k = z from Fin.ext (by omega)])
    have h1 : k.val ≠ 1 := fun h => hc' (by rw [show k = o from Fin.ext (by omega)])
    exact before_sortedFrom f (Fin.lt_def.mpr (by omega))

/-! ## The maximum, and the lowest lane that holds it -/

/-- No entry is above the one at the first position. -/
theorem IsFirst.le {f : Fin n → EReal} {a : Fin n} (h : IsFirst f a) (b : Fin n) : f b ≤ f a := by
  by_cases hb : b = a
  · rw [hb]
  · rcases h b hb with h | h
    · exact h.le
    · exact h.1.ge

/-- A position below the first one holds a smaller entry. -/
theorem IsFirst.lt {f : Fin n → EReal} {a b : Fin n} (h : IsFirst f a) (hb : b < a) : f b < f a := by
  rcases h b hb.ne with h | h
  · exact h
  · exact absurd (h.2.trans hb) (lt_irrefl _)

/-- The maximum of a row is its entry at the first position. -/
theorem IsFirst.fold_max {f : Fin n → EReal} {a : Fin n} (h : IsFirst f a) : Finset.univ.fold max ⊥ f = f a :=
  le_antisymm (Finset.fold_max_le _ |>.mpr ⟨bot_le, fun b _ => h.le b⟩)
    (Finset.le_fold_max _ |>.mpr (.inr ⟨a, Finset.mem_univ _, le_rfl⟩))

/-- The signed minimum, over the lanes, of "the lane's number if it holds the value `v`, else 16" is the number of the
    lowest lane that holds `v`. -/
theorem fold_minsi_lane (f : Fin 16 → EReal) (v : EReal) (a : Fin 16) (ha : f a = v) (hlow : ∀ b, b < a → f b ≠ v)
    (w : Fin 16 → BitVec 32) (hw : ∀ b, f b = v → w b = BitVec.ofNat 32 b.val) (hw' : ∀ b, f b ≠ v → w b = 16#32) :
    Finset.univ.fold IntOp.minsi 2147483647#32 w = BitVec.ofNat 32 a.val := by
  have hlane : ∀ b : Fin 16, (BitVec.ofNat 32 b.val).toInt = b.val := by decide
  have h16 : (16#32 : BitVec 32).toInt = 16 := by decide
  have hmax : (2147483647#32 : BitVec 32).toInt = 2147483647 := by decide
  apply BitVec.eq_of_toInt_eq
  rw [← Finset.fold_hom (op' := min) (m := BitVec.toInt) Idealize.ShloMosaic.SortNet.toInt_minsi, hmax, hlane]
  refine le_antisymm (Finset.fold_min_le _ |>.mpr (.inr ⟨a, Finset.mem_univ _, ?_⟩))
    (Finset.le_fold_min _ |>.mpr ⟨by omega, fun b _ => ?_⟩)
  · rw [hw a ha, hlane]
  · by_cases hb : f b = v
    · rw [hw b hb, hlane]
      have : ¬ b < a := fun hlt => hlow b hlt hb
      rw [Fin.lt_def] at this
      omega
    · rw [hw' b hb, h16]
      omega

/-- So the lowest lane that holds the row's maximum is the first position. -/
theorem IsFirst.fold_minsi {f : Fin 16 → EReal} {a : Fin 16} (h : IsFirst f a)
    (w : Fin 16 → BitVec 32) (hw : ∀ b, f b = f a → w b = BitVec.ofNat 32 b.val) (hw' : ∀ b, f b ≠ f a → w b = 16#32) :
    Finset.univ.fold IntOp.minsi 2147483647#32 w = BitVec.ofNat 32 a.val :=
  fold_minsi_lane f (f a) a rfl (fun _ hb => (h.lt hb).ne) w hw hw'

/-- The row with the first position's entry overwritten by `⊥`. -/
def mask (f : Fin n → EReal) (a : Fin n) : Fin n → EReal := fun b => if b = a then ⊥ else f b

/-- The second position of a row of entries above `⊥` is the first of the masked row. -/
theorem IsSecond.isFirst_mask {f : Fin n → EReal} {a b : Fin n} (h : IsSecond f a b) (hf : ∀ c, f c ≠ ⊥) :
    IsFirst (mask f a) b := by
  have hb : mask f a b = f b := if_neg h.1
  intro c hc
  by_cases hca : c = a
  · refine .inl ?_
    rw [hb, show mask f a c = ⊥ from if_pos hca]
    exact bot_lt_iff_ne_bot.mpr (hf b)
  · have hc' : mask f a c = f c := if_neg hca
    unfold Before
    rw [hb, hc']
    exact h.2 c hca hc

/-! ## What a row's two results are -/

/-- The position listed `j`-th. -/
def pos (f : Fin 16 → EReal) (j : Fin 2) : Fin 16 := sortedFrom (gt f) (j.castLE (by decide))

/-- The position listed 0-th is the first. -/
theorem isFirst_pos (f : Fin 16 → EReal) : IsFirst f (pos f 0) := isFirst_sortedFrom f _ rfl

/-- The position listed next is the second. -/
theorem isSecond_pos (f : Fin 16 → EReal) : IsSecond f (pos f 0) (pos f 1) := isSecond_sortedFrom f _ _ rfl rfl

/-- The two listed positions depend on how the entries compare, on nothing else. -/
theorem pos_congr {f g : Fin 16 → EReal} (hlt : ∀ a b, f a < f b ↔ g a < g b) : pos f = pos g := by
  have h : gt f = gt g := funext fun a => funext fun b => decide_eq_decide.mpr (hlt b a)
  unfold pos
  rw [h]

/-- A row's indices: its two listed positions, as words. -/
def idxOf (f : Fin 16 → EReal) (j : Fin 2) : BitVec 32 := BitVec.ofNat 32 (pos f j).val

/-- The first of a row's weights: the softmax of its two greatest entries, at the greatest. -/
def wt (f : Fin 16 → EReal) : EReal := Ideal.div 1 (1 + Ideal.exp (f (pos f 1) - f (pos f 0)))

/-- A row's weights: the first, and one minus the first. -/
def wtOf (f : Fin 16 → EReal) (j : Fin 2) : EReal := if j = 0 then wt f else 1 - wt f

end Top2

end
-- ==== Proof.KernelRow.lean ====
/-
  What the kernel computes for one row of a block, read off the payloads its body stores.

  A block holds 1024 token rows. `logit w x r e` is the product of row `r` of the block with row `e` of the weights. For
  the row's first and second positions `a`, `b` (`Top2.IsFirst`, `Top2.IsSecond`) the kernel stores the lane numbers `a`
  and `b`, and the weights `1 / (1 + exp (logit b − logit a))` and one minus that.
-/
module

public import proofs.«01_k».proof.Proof.Top2
public import proofs.«01_k».proof.Proof.Gen.KernelIdeal.Skeleton
public import Idealize.ShloMosaic.Lib.Pointwise

@[expose] public section

set_option maxRecDepth 16384

noncomputable section

namespace Cert.KernelIdeal.Row

open Idealize.ShloMosaic Idealize.ShloMosaic.TcCoe Idealize.SL.Sem
open Cert.KernelIdeal Cert.KernelIdeal.Gen Top2

variable (w : FVec Ideal S16x2048 .f32) (x : FVec Ideal S1024x2048 .f32) (r : Fin 1024) (z : Fin 1)

/-- The logits of row `r` of a block `x` under the weights `w`. -/
def logit (e : Fin 16) : EReal := ∑ k : Fin 2048, x (ix2 r k) * w (ix2 e k)

/-- The pattern of `-∞` denotes `⊥`. -/
theorem negInf : Ideal.ofBits .f32 0xFF800000#32 = ⊥ := by simp [Ideal.ofBits, Ideal.ieee]

/-- The block's product with the weights holds the logits. -/
theorem pay2_apply (e : Fin 16) : k0_pay2 (F := Ideal) w x (ix2 r e) = logit w x r e := by
  pointwise [k0_pay2, logit]

/-- The row's maximum, as the maximum of its logits. -/
theorem pay3_fold : k0_pay3 (F := Ideal) w x (ix2 r z) = Finset.univ.fold max ⊥ (logit w x r) := by
  pointwise [k0_pay3]
  rw [negInf]
  exact congrArg (fun f => Finset.univ.fold max ⊥ f) (funext fun e => pay2_apply w x r e)

variable {w x r} {a b : Fin 16}

/-- The row's maximum is the logit at the first position. -/
theorem pay3_apply (ha : IsFirst (logit w x r) a) : k0_pay3 (F := Ideal) w x (ix2 r z) = logit w x r a := by
  rw [pay3_fold, ha.fold_max]

/-- The first index stored is the first position. -/
theorem pay4_apply (ha : IsFirst (logit w x r) a) :
    k0_pay4 (F := Ideal) w x (ix2 r z) = BitVec.ofNat 32 a.val := by
  pointwise [k0_pay4]
  simp only [pay2_apply, pay3_apply 0 ha]
  exact ha.fold_minsi _ (fun _ h => if_pos h) (fun _ h => if_neg h)

/-- The product with the first position's lane overwritten holds the masked logits. -/
theorem pay5_apply (ha : IsFirst (logit w x r) a) (e : Fin 16) :
    k0_pay5 (F := Ideal) w x (ix2 r e) = mask (logit w x r) a e := by
  have hlane : ∀ e a : Fin 16, Scalar.select (IntOp.cmpi .eq (BitVec.ofNat 32 e.val) (BitVec.ofNat 32 a.val)) true false
      = decide (e = a) := by decide
  have hsel : ∀ (c : BitVec 1) (u v : EReal), Scalar.select c u v = if Scalar.select c true false = true then u else v := by
    intro c u v
    unfold Scalar.select
    split <;> simp
  pointwise [k0_pay5]
  rw [pay2_apply, pay4_apply 0 ha, negInf, hsel, hlane]
  simp only [mask, decide_eq_true_eq]

/-- The masked row's maximum is the logit at the second position. -/
theorem pay6_apply (ha : IsFirst (logit w x r) a) (hb : IsSecond (logit w x r) a b) (hf : ∀ e, logit w x r e ≠ ⊥) :
    k0_pay6 (F := Ideal) w x (ix2 r z) = logit w x r b := by
  pointwise [k0_pay6]
  simp only [pay5_apply ha, negInf]
  exact (hb.isFirst_mask hf).fold_max.trans (if_neg hb.1)

/-- The second index stored is the second position. -/
theorem pay7_apply (ha : IsFirst (logit w x r) a) (hb : IsSecond (logit w x r) a b) (hf : ∀ e, logit w x r e ≠ ⊥) :
    k0_pay7 (F := Ideal) w x (ix2 r z) = BitVec.ofNat 32 b.val := by
  have hmb : mask (logit w x r) a b = logit w x r b := if_neg hb.1
  pointwise [k0_pay7]
  simp only [pay5_apply ha, pay6_apply 0 ha hb hf]
  rw [← hmb]
  exact (hb.isFirst_mask hf).fold_minsi _ (fun _ h => if_pos h) (fun _ h => if_neg h)

/-- The first weight stored: the two logits' softmax at the first position. -/
theorem pay8_apply (ha : IsFirst (logit w x r) a) (hb : IsSecond (logit w x r) a b) (hf : ∀ e, logit w x r e ≠ ⊥) :
    k0_pay8 (F := Ideal) w x (ix2 r z) = Ideal.div 1 (1 + Ideal.exp (logit w x r b - logit w x r a)) := by
  pointwise [k0_pay8]
  rw [pay6_apply z ha hb hf, pay3_apply z ha]

/-- The second weight stored is one minus the first. -/
theorem pay10_apply (v : FVec Ideal S1024x1 .f32) : k0_pay10 (F := Ideal) v k0_pay9 (ix2 r z) = 1 - v (ix2 r z) := by
  pointwise [k0_pay10, k0_pay9]

/-- The same of the second half's, which names the constant one itself. -/
theorem pay1_apply (v : FVec Ideal S1024x1 .f32) :
    k0_pay1 (F := Ideal) v (Scalar.ofBits .f32 0x3F800000#32) (ix2 r z) = 1 - v (ix2 r z) := by
  pointwise [k0_pay1]

/-- The second half's first index is computed as the first half's is, at its own block. -/
theorem pay13_eq : @k0_pay13 Ideal _ = k0_pay4 := rfl
/-- The same of the second index. -/
theorem pay16_eq : @k0_pay16 Ideal _ = k0_pay7 := rfl
/-- The same of the first weight. -/
theorem pay17_eq : @k0_pay17 Ideal _ = k0_pay8 := rfl

end Cert.KernelIdeal.Row

end
-- ==== Proof.KernelRun.lean ====
/-
  The kernel's run, with its two results named: each is the two halves' arrays, as the region leaves them, one after the
  other and reshaped to the input's batches.
-/
module

public import proofs.«01_k».proof.Proof.Gen.KernelIdeal.Frame
public import Idealize.ShloMosaic.Lib.Claim
public import Idealize.ShloMosaic.PureOps.Ideal

@[expose] public section

set_option maxRecDepth 16384

noncomputable section

namespace Cert.KernelIdeal.Run

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- Window `w`'s array after the whole grid. -/
abbrev arr (c : Dev nD) (w : Fin cfg0.W) := (dats m 0 c).arrAt w cfg0.N

/-- The lines after the region find window `w`'s array as the region leaves it. -/
theorem after_arr (c : Dev nD) (w : Fin cfg0.W) :
    Pipeline.withArrays cfg0.spec c (V0 m c) (fun w => (dats m 0 c).arrAt w cfg0.N)
      (Proc.devRef .tc (Pipeline.arrRef spec0 w)) = arr m c w :=
  (dats m 0 c).withArrays_arrAt sharedIn0 (V0 m c) (A_eq m c) w

/-- Two arrays of 4096 rows, one after the other, reshaped to four batches of 2048 rows. -/
def join {α : Type} (xa xb : S4096x2.Idx → α) : S4x2048x2.Idx → α :=
  shapeCast S4x2048x2 (concatenate S8192x2 0 [⟨S4096x2, xa⟩, ⟨S4096x2, xb⟩] concatenates_S4096x2_S4096x2_S8192x2_d0) shapeCasts_S8192x2_S4x2048x2

/-- The indices result: the two halves' indices joined. -/
theorem indices_eq (c : Dev nD) :
    Pipeline.afterTail₀ cfgs (dats m) 0 (V0 m) [hostOps1] c main_v3 = join (arr m c 3) (arr m c 4) := by
  unfold Pipeline.afterTail₀
  rw [← after_arr m c 3, ← after_arr m c 4]
  simp only [hostOps1, List.flatten_cons, List.flatten_nil, List.append_nil]
  generalize Pipeline.withArrays _ c (V0 m c) _ = X
  after_results
  rfl

/-- The weights result: the two halves' weights joined. -/
theorem weights_eq (c : Dev nD) :
    Pipeline.afterTail₀ cfgs (dats m) 0 (V0 m) [hostOps1] c main_v5 = join (arr m c 5) (arr m c 6) := by
  unfold Pipeline.afterTail₀
  rw [← after_arr m c 5, ← after_arr m c 6]
  simp only [hostOps1, List.flatten_cons, List.flatten_nil, List.append_nil]
  generalize Pipeline.withArrays _ c (V0 m c) _ = X
  after_results
  rfl

/-- Every run of the kernel ends with the joined indices and the joined weights in its results, its arguments unchanged. -/
theorem run : θ_run defs (onTc (τ := τ) (main (F := Ideal))) ⟨m, fun _ => 0, ρ⟩ (fun r => ∀ c : Dev nD,
    r.2.mem ((c.tc : Thread nD τ).loc main_v3) = join (arr m c 3) (arr m c 4)
    ∧ r.2.mem ((c.tc : Thread nD τ).loc main_v5) = join (arr m c 5) (arr m c 6)
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c =>
    ⟨((h c).2 main_v3 (Pipeline.mem_restRefs_of main_v3 (by decide) (by decide))).trans (indices_eq m c),
      ((h c).2 main_v5 (Pipeline.mem_restRefs_of main_v5 (by decide) (by decide))).trans (weights_eq m c),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c)))⟩) (run_main m ρ)

end Cert.KernelIdeal.Run

end
-- ==== Proof.KernelArray.lean ====
/-
  What the kernel's four arrays hold after the whole grid. Point `t` writes rows `t * 1024` to `t * 1024 + 1023` of each;
  those of the first two hold the positions and the weights of the tokens in the first half, those of the other two the
  same of the second half, 4096 rows further on.
-/
module

public import proofs.«01_k».proof.Proof.KernelRow
public import proofs.«01_k».proof.Proof.KernelRun
public import Idealize.ShloMosaic.Lib.Pipeline.ValueKit

@[expose] public section

set_option maxRecDepth 16384

noncomputable section

namespace Cert.KernelIdeal.Array

open Idealize.ShloMosaic Idealize.ShloMosaic.TcCoe Idealize.SL.Sem
open Idealize.ShloMosaic.Pipeline (Dat)
open Cert.KernelIdeal Cert.KernelIdeal.Gen Cert.KernelIdeal.Row Top2

/-- The windows' index maps. -/
theorem idx_val : ∀ t : Fin cfg0.N, win0_0.index t = ![t.val, 0] ∧ win0_1.index t = ![t.val + 4, 0]
    ∧ win0_2.index t = ![0, 0] ∧ win0_3.index t = ![t.val, 0] ∧ win0_4.index t = ![t.val, 0]
    ∧ win0_5.index t = ![t.val, 0] ∧ win0_6.index t = ![t.val, 0] :=
  (by decide +kernel : ∀ t : Fin grid0.N, _)

/-! ## What one block of each output holds -/

section block

/-- A block whose two columns are stored one at a time holds the first at column 0 and the second at column 1. -/
theorem columns_apply {e : EltTy} (p0 p1 : Vec Ideal S1024x1 e) (r : Fin 1024) (j : Fin 2) :
    View.canon (Val := Elt Ideal) [⟨r0_3, p1⟩, ⟨r0_2, p0⟩] (ix2 r j) = if j = 0 then p0 (ix2 r 0) else p1 (ix2 r 0) := by
  generalize hy : (ix2 r j : S1024x2.Idx) = y
  obtain rfl : y 0 = r := by rw [← hy]; rfl
  obtain rfl : y 1 = j := by rw [← hy]; rfl
  clear hy
  canon_tiles x h
  · have hx : x = ix2 (y 0) 0 := by
      rw [eq_ix2 x]
      exact congrArg₂ ix2 (Fin.ext h0.symm) (Fin.ext (by show (x 1).val = 0; omega))
    have hj : y 1 ≠ (0 : Fin 2) := fun hy => by rw [hy] at h1; exact absurd h1 (by show 0 ≠ 1 + (x 1).val; omega)
    exact (congrArg p1 hx).trans (if_neg hj).symm
  · have hx : x = ix2 (y 0) 0 := by
      rw [eq_ix2 x]
      exact congrArg₂ ix2 (Fin.ext h0.symm) (Fin.ext (by show (x 1).val = 0; omega))
    have hj : y 1 = (0 : Fin 2) := Fin.ext (by show (y 1).val = 0; omega)
    exact (congrArg p0 hx).trans (if_pos hj).symm

/-- Reading the whole weights block gives the block. -/
theorem ld_w (x : Vec Ideal S16x2048 .f32) : View.ld (Val := Elt Ideal) (e' := .f32) x r0_0 = x :=
  View.ld_unit_lit (S := S16x2048) _ x (by decide)
/-- Reading a whole token block gives the block. -/
theorem ld_x (x : Vec Ideal S1024x2048 .f32) : View.ld (Val := Elt Ideal) (e' := .f32) x r0_1 = x :=
  View.ld_unit_lit (S := S1024x2048) _ x (by decide)

variable (x0 x1 : FVec Ideal S1024x2048 .f32) (x2 : FVec Ideal S16x2048 .f32) (r : Fin 1024) (j : Fin 2)

/-- Where the condition is a case split on the column, an entry of the row's list. -/
theorem idxOf_eq (f : Fin 16 → EReal) :
    (if j = 0 then BitVec.ofNat 32 (pos f 0).val else BitVec.ofNat 32 (pos f 1).val) = idxOf f j := by
  match j with
  | 0 => rfl
  | 1 => rfl

/-- The first half's indices block: each row's two positions. -/
theorem out3_apply (hf : ∀ e, logit x2 x0 r e ≠ ⊥) :
    out0_3 (F := Ideal) x0 x1 x2 (ix2 r j) = idxOf (logit x2 x0 r) j := by
  unfold out0_3
  rw [columns_apply, ld_w, ld_x, pay4_apply 0 (isFirst_pos _), pay7_apply 0 (isFirst_pos _) (isSecond_pos _) hf, idxOf_eq]

/-- The second half's indices block. -/
theorem out4_apply (hf : ∀ e, logit x2 x1 r e ≠ ⊥) :
    out0_4 (F := Ideal) x0 x1 x2 (ix2 r j) = idxOf (logit x2 x1 r) j := by
  unfold out0_4
  rw [columns_apply, ld_w, ld_x, pay13_eq, pay16_eq, pay4_apply 0 (isFirst_pos _),
    pay7_apply 0 (isFirst_pos _) (isSecond_pos _) hf, idxOf_eq]

/-- The first half's weights block: each row's two weights. -/
theorem out5_apply (hf : ∀ e, logit x2 x0 r e ≠ ⊥) :
    out0_5 (F := Ideal) x0 x1 x2 (ix2 r j) = wtOf (logit x2 x0 r) j := by
  unfold out0_5
  rw [columns_apply, ld_w, ld_x, pay10_apply, pay8_apply 0 (isFirst_pos _) (isSecond_pos _) hf]
  rfl

/-- The second half's weights block. -/
theorem out6_apply (hf : ∀ e, logit x2 x1 r e ≠ ⊥) :
    out0_6 (F := Ideal) x0 x1 x2 (ix2 r j) = wtOf (logit x2 x1 r) j := by
  unfold out0_6
  rw [columns_apply, ld_w, ld_x, pay17_eq, pay1_apply, pay8_apply 0 (isFirst_pos _) (isSecond_pos _) hf]
  rfl

end block

variable (m : (ℓ : Loc nD τ sig) → Buf (Elt Ideal) ℓ)

/-- The tokens, one per row. -/
abbrev tok (c : Dev nD) : FVec Ideal S8192x2048 .f32 := V m c main_v0
/-- The weights. -/
abbrev wts (c : Dev nD) : FVec Ideal S16x2048 .f32 := m ((c : Thread nD τ).loc main_arg1)

/-- The logits of token `R`. -/
def tokLogit (X : FVec Ideal S8192x2048 .f32) (w : FVec Ideal S16x2048 .f32) (R : Fin 8192) (e : Fin 16) : EReal :=
  ∑ k : Fin 2048, X (ix2 R k) * w (ix2 e k)

/-- Row `r` of the first input block at point `t` is token `t * 1024 + r`. -/
theorem logit_first (c : Dev nD) (t : Fin cfg0.N) (r : Fin 1024) (h : t.val * 1024 + r.val < 8192) :
    logit (iblk m c 2 t) (iblk m c 0 t) r = tokLogit (tok m c) (wts m c) ⟨t.val * 1024 + r.val, h⟩ := by
  funext e
  unfold logit tokLogit
  blk_point [iblk, V, idx_val t]

/-- Row `r` of the second input block at point `t` is token `(t + 4) * 1024 + r`. -/
theorem logit_second (c : Dev nD) (t : Fin cfg0.N) (r : Fin 1024) (h : (t.val + 4) * 1024 + r.val < 8192) :
    logit (iblk m c 2 t) (iblk m c 1 t) r = tokLogit (tok m c) (wts m c) ⟨(t.val + 4) * 1024 + r.val, h⟩ := by
  funext e
  unfold logit tokLogit
  blk_point [iblk, V, idx_val t]

/-- A row of the first half of the tokens. -/
def lo (R : Fin 4096) : Fin 8192 := ⟨R.val, by omega⟩
/-- A row of the second half of the tokens. -/
def hi (R : Fin 4096) : Fin 8192 := ⟨4096 + R.val, by omega⟩

/-- The logits of row `r` of the first input block at point `t` are those of the token it was read from. -/
theorem logit_lo (c : Dev nD) (t : Fin cfg0.N) (r : Fin 1024) (R : Fin 4096) (h : R.val = t.val * 1024 + r.val) :
    logit (iblk m c 2 t) (iblk m c 0 t) r = tokLogit (tok m c) (wts m c) (lo R) := by
  rw [logit_first m c t r (by omega)]
  exact congrArg _ (Fin.ext h.symm)

/-- The same of the second input block, whose tokens lie 4096 rows further on. -/
theorem logit_hi (c : Dev nD) (t : Fin cfg0.N) (r : Fin 1024) (R : Fin 4096) (h : R.val = t.val * 1024 + r.val) :
    logit (iblk m c 2 t) (iblk m c 1 t) r = tokLogit (tok m c) (wts m c) (hi R) := by
  rw [logit_second m c t r (by omega)]
  exact congrArg _ (Fin.ext (by show (t.val + 4) * 1024 + r.val = 4096 + R.val; omega))

variable (hf : ∀ (c : Dev nD) R e, tokLogit (tok m c) (wts m c) R e ≠ ⊥)
include hf

/-- The first half's indices array: each row's two positions. -/
theorem final3 (c : Dev nD) :
    Run.arr m c 3 = fun i => idxOf (tokLogit (tok m c) (wts m c) (lo (i 0))) (i 1) := by
  refine (dats m 0 c).arrAt_eq_of_covers 3 _ (by decide +kernel) fun t _ y => ?_
  blk_simp
  rw [after0_3]
  have e0 : ((win0_3.blk t).view.emb y 0).val = t.val * 1024 + (y 0).val := by blk_simp [idx_val t]
  have e1 : ((win0_3.blk t).view.emb y 1).val = (y 1).val := by blk_simp [idx_val t]
  have hl := logit_lo m c t (y 0) ((win0_3.blk t).view.emb y 0) e0
  refine (congrArg (out0_3 _ _ _) (eq_ix2 (n0 := 1024) (n1 := 2) y)).trans ?_
  refine (out3_apply _ _ _ _ _ fun e => by rw [hl]; exact hf c _ e).trans ?_
  rw [hl]
  exact congrArg _ (Fin.ext e1.symm)

/-- The second half's indices array. -/
theorem final4 (c : Dev nD) :
    Run.arr m c 4 = fun i => idxOf (tokLogit (tok m c) (wts m c) (hi (i 0))) (i 1) := by
  refine (dats m 0 c).arrAt_eq_of_covers 4 _ (by decide +kernel) fun t _ y => ?_
  blk_simp
  rw [after0_4]
  have e0 : ((win0_4.blk t).view.emb y 0).val = t.val * 1024 + (y 0).val := by blk_simp [idx_val t]
  have e1 : ((win0_4.blk t).view.emb y 1).val = (y 1).val := by blk_simp [idx_val t]
  have hl := logit_hi m c t (y 0) ((win0_4.blk t).view.emb y 0) e0
  refine (congrArg (out0_4 _ _ _) (eq_ix2 (n0 := 1024) (n1 := 2) y)).trans ?_
  refine (out4_apply _ _ _ _ _ fun e => by rw [hl]; exact hf c _ e).trans ?_
  rw [hl]
  exact congrArg _ (Fin.ext e1.symm)

/-- The first half's weights array: each row's two weights. -/
theorem final5 (c : Dev nD) :
    Run.arr m c 5 = fun i => wtOf (tokLogit (tok m c) (wts m c) (lo (i 0))) (i 1) := by
  refine (dats m 0 c).arrAt_eq_of_covers 5 _ (by decide +kernel) fun t _ y => ?_
  blk_simp
  rw [after0_5]
  have e0 : ((win0_5.blk t).view.emb y 0).val = t.val * 1024 + (y 0).val := by blk_simp [idx_val t]
  have e1 : ((win0_5.blk t).view.emb y 1).val = (y 1).val := by blk_simp [idx_val t]
  have hl := logit_lo m c t (y 0) ((win0_5.blk t).view.emb y 0) e0
  refine (congrArg (out0_5 _ _ _) (eq_ix2 (n0 := 1024) (n1 := 2) y)).trans ?_
  refine (out5_apply _ _ _ _ _ fun e => by rw [hl]; exact hf c _ e).trans ?_
  rw [hl]
  exact congrArg _ (Fin.ext e1.symm)

/-- The second half's weights array. -/
theorem final6 (c : Dev nD) :
    Run.arr m c 6 = fun i => wtOf (tokLogit (tok m c) (wts m c) (hi (i 0))) (i 1) := by
  refine (dats m 0 c).arrAt_eq_of_covers 6 _ (by decide +kernel) fun t _ y => ?_
  blk_simp
  rw [after0_6]
  have e0 : ((win0_6.blk t).view.emb y 0).val = t.val * 1024 + (y 0).val := by blk_simp [idx_val t]
  have e1 : ((win0_6.blk t).view.emb y 1).val = (y 1).val := by blk_simp [idx_val t]
  have hl := logit_hi m c t (y 0) ((win0_6.blk t).view.emb y 0) e0
  refine (congrArg (out0_6 _ _ _) (eq_ix2 (n0 := 1024) (n1 := 2) y)).trans ?_
  refine (out6_apply _ _ _ _ _ fun e => by rw [hl]; exact hf c _ e).trans ?_
  rw [hl]
  exact congrArg _ (Fin.ext e1.symm)

end Cert.KernelIdeal.Array

end
-- ==== Proof.KernelValue.lean ====
/-
  The kernel's two results at an index: the row's two positions and the row's two weights, from the logits of the
  input's row.
-/
module

public import proofs.«01_k».proof.Proof.KernelArray
public import Idealize.ShloMosaic.Lib.Pointwise

@[expose] public section

set_option maxRecDepth 16384

noncomputable section

namespace Cert.KernelIdeal.Value

open Idealize.ShloMosaic Idealize.ShloMosaic.TcCoe Idealize.SL.Sem
open Cert.KernelIdeal Cert.KernelIdeal.Gen Cert.KernelIdeal.Array Cert.KernelIdeal.Run Top2

/-- The token at place `n` of batch `i`, as a row of all tokens. -/
def row (i : Fin 4) (n : Fin 2048) : Fin 8192 := ⟨i.val * 2048 + n.val, by omega⟩

/-- Two halves that hold the two halves of one table, joined, hold the table. -/
theorem join_apply {α : Type} (g : Fin 8192 → Fin 2 → α) (i : Fin 4) (n : Fin 2048) (j : Fin 2) :
    join (fun y => g (lo (y 0)) (y 1)) (fun y => g (hi (y 0)) (y 1)) (ix3 i n j) = g (row i n) j := by
  pointwise [join]
  split
  · rfl
  · next h => exact congrArg (g · j) (Fin.ext (by show 4096 + (i.val * 2048 + n.val - 4096) = i.val * 2048 + n.val; omega))

variable (m : (ℓ : Loc nD τ sig) → Buf (Elt Ideal) ℓ)

/-- The input's logits at place `n` of batch `i`. -/
def inLogit (x : FVec Ideal S4x2048x2048 .f32) (w : FVec Ideal S16x2048 .f32) (i : Fin 4) (n : Fin 2048) (e : Fin 16) : EReal :=
  ∑ k : Fin 2048, x (ix3 i n k) * w (ix2 e k)

/-- The region finds the input's tokens one per row. -/
theorem tok_eq (c : Dev nD) :
    tok m c = shapeCast S8192x2048 (m ((c : Thread nD τ).loc main_arg0)) shapeCasts_S4x2048x2048_S8192x2048 := by
  show StableHlo.after (List.flatten [hostOps0]) (fun b => m (c, b)) (Proc.devRef .tc main_v0) = _
  simp only [hostOps0, List.flatten_cons, List.flatten_nil, List.append_nil]
  after_results
  rfl

/-- The tokens as rows: the row of place `n` of batch `i` is that token. -/
theorem cast_apply (x : FVec Ideal S4x2048x2048 .f32) (i : Fin 4) (n k : Fin 2048) :
    shapeCast S8192x2048 x shapeCasts_S4x2048x2048_S8192x2048 (ix2 (row i n) k) = x (ix3 i n k) := by
  pointwise
  have h0 : (row i n).val / 2048 = i.val := by show (i.val * 2048 + n.val) / 2048 = i.val; omega
  have h1 : (row i n).val % 2048 = n.val := by show (i.val * 2048 + n.val) % 2048 = n.val; omega
  exact congrArg x (congrArg₂ (fun a b => ix3 a b k) (Fin.ext h0) (Fin.ext h1))

/-- As the region finds them: the row of place `n` of batch `i` holds that token. -/
theorem tok_apply (c : Dev nD) (i : Fin 4) (n k : Fin 2048) :
    tok m c (ix2 (row i n) k) = m ((c : Thread nD τ).loc main_arg0) (ix3 i n k) := by
  rw [tok_eq]
  exact cast_apply _ i n k

/-- A row's logits are the input's. -/
theorem tokLogit_row (c : Dev nD) (i : Fin 4) (n : Fin 2048) :
    tokLogit (tok m c) (wts m c) (row i n)
      = inLogit (m ((c : Thread nD τ).loc main_arg0)) (m ((c : Thread nD τ).loc main_arg1)) i n := by
  funext e
  exact Finset.sum_congr rfl fun k _ => congrArg (· * wts m c (ix2 e k)) (tok_apply m c i n k)

/-- Every row is the row of some place of some batch. -/
theorem exists_row (R : Fin 8192) : ∃ i n, R = row i n :=
  ⟨⟨R.val / 2048, by omega⟩, ⟨R.val % 2048, by omega⟩, Fin.ext (by show R.val = R.val / 2048 * 2048 + R.val % 2048; omega)⟩

variable (hf : ∀ (c : Dev nD) i n e,
  inLogit (m ((c : Thread nD τ).loc main_arg0)) (m ((c : Thread nD τ).loc main_arg1)) i n e ≠ ⊥)
include hf

/-- If no logit of the input is `⊥`, none of a row is. -/
theorem tokLogit_ne (c : Dev nD) (R : Fin 8192) (e : Fin 16) : tokLogit (tok m c) (wts m c) R e ≠ ⊥ := by
  obtain ⟨i, n, rfl⟩ := exists_row R
  rw [tokLogit_row]
  exact hf c i n e

/-- The kernel's indices: each row's two positions. -/
theorem indices_apply (c : Dev nD) (i : Fin 4) (n : Fin 2048) (j : Fin 2) :
    join (arr m c 3) (arr m c 4) (ix3 i n j)
      = idxOf (inLogit (m ((c : Thread nD τ).loc main_arg0)) (m ((c : Thread nD τ).loc main_arg1)) i n) j := by
  rw [final3 m (tokLogit_ne m hf) c, final4 m (tokLogit_ne m hf) c, ← tokLogit_row]
  exact join_apply (fun R j => idxOf (tokLogit (tok m c) (wts m c) R) j) i n j

/-- The kernel's weights: each row's two weights. -/
theorem weights_apply (c : Dev nD) (i : Fin 4) (n : Fin 2048) (j : Fin 2) :
    join (arr m c 5) (arr m c 6) (ix3 i n j)
      = wtOf (inLogit (m ((c : Thread nD τ).loc main_arg0)) (m ((c : Thread nD τ).loc main_arg1)) i n) j := by
  rw [final5 m (tokLogit_ne m hf) c, final6 m (tokLogit_ne m hf) c, ← tokLogit_row]
  exact join_apply (fun R j => wtOf (tokLogit (tok m c) (wts m c) R) j) i n j

end Cert.KernelIdeal.Value

end
-- ==== Proof.Softmax.lean ====
/-
  The reference's mathematics on one row of real logits: its softmax scores, ordered as the logits are, and the two
  greatest divided by their clipped sum, which are the two logits' own softmax.
-/
module

public import proofs.«01_k».proof.Proof.Top2

@[expose] public section

noncomputable section

namespace Top2

open Idealize.ShloMosaic

/-- The exponential of a logit less its row's maximum (the maximum taken once more with `⊥`, as softmax does). -/
def expOf (l : Fin 16 → EReal) (e : Fin 16) : EReal := Ideal.exp (l e - max ⊥ (Finset.univ.fold max ⊥ l))

/-- The softmax score of lane `e`. -/
def score (l : Fin 16 → EReal) (e : Fin 16) : EReal := Ideal.div (expOf l e) (∑ e', expOf l e')

/-- A finite sum of reals is the sum of their values among the extended reals. -/
theorem sum_real {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

section real

variable (r : Fin 16 → ℝ) {a : Fin 16}

/-- The sum of the exponentials of a row of reals, each less the entry at `a`. -/
def total (a : Fin 16) : ℝ := ∑ e, Real.exp (r e - r a)

/-- That sum is positive. -/
theorem total_pos : 0 < total r a := Finset.sum_pos (fun _ _ => Real.exp_pos _) Finset.univ_nonempty

/-- The exponentials of a row of reals are real exponentials. -/
theorem expOf_coe (ha : IsFirst (fun e => (r e : EReal)) a) (e : Fin 16) :
    expOf (fun e => (r e : EReal)) e = (Real.exp (r e - r a) : EReal) := by
  unfold expOf
  rw [ha.fold_max, max_eq_right bot_le, ← EReal.coe_sub, Ideal.exp_coe]

/-- A score of a row of reals is a real: the exponential over the sum of the exponentials. -/
theorem score_coe (ha : IsFirst (fun e => (r e : EReal)) a) (e : Fin 16) :
    score (fun e => (r e : EReal)) e = ((Real.exp (r e - r a) / total r a : ℝ) : EReal) := by
  have hs : ∑ e', expOf (fun e => (r e : EReal)) e' = (total r a : EReal) := by
    simp only [expOf_coe r ha, total, sum_real]
  unfold score
  rw [hs, Ideal.div_coe (total_pos r).ne', expOf_coe r ha, ← EReal.coe_mul, mul_one_div]

/-- The scores compare as the logits do. -/
theorem score_lt_iff (ha : IsFirst (fun e => (r e : EReal)) a) (e e' : Fin 16) :
    score (fun e => (r e : EReal)) e < score (fun e => (r e : EReal)) e' ↔ (r e : EReal) < (r e' : EReal) := by
  rw [score_coe r ha, score_coe r ha, EReal.coe_lt_coe_iff, EReal.coe_lt_coe_iff,
    div_lt_div_iff_of_pos_right (total_pos r), Real.exp_lt_exp, sub_lt_sub_iff_right]

/-- The greatest score is at least a sixteenth. -/
theorem score_first_ge (ha : IsFirst (fun e => (r e : EReal)) a) : 1 / 16 ≤ Real.exp (r a - r a) / total r a := by
  have hle : total r a ≤ 16 := by
    have h : ∀ e ∈ (Finset.univ : Finset (Fin 16)), Real.exp (r e - r a) ≤ 1 := fun e _ => by
      rw [Real.exp_le_one_iff, sub_nonpos]
      exact EReal.coe_le_coe_iff.mp (ha.le e)
    have := Finset.sum_le_card_nsmul _ _ _ h
    simpa [total] using this
  rw [sub_self, Real.exp_zero]
  exact one_div_le_one_div_of_le (total_pos r) hle

variable {b : Fin 16} {c : EReal}

/-- The clip does nothing: the two greatest scores' sum is above any bound of at most a sixteenth. -/
theorem clip_eq (ha : IsFirst (fun e => (r e : EReal)) a) (hc : c ≤ ((1 / 16 : ℝ) : EReal)) :
    max c (score (fun e => (r e : EReal)) a + score (fun e => (r e : EReal)) b)
      = (((1 + Real.exp (r b - r a)) / total r a : ℝ) : EReal) := by
  have he : score (fun e => (r e : EReal)) a + score (fun e => (r e : EReal)) b
      = (((1 + Real.exp (r b - r a)) / total r a : ℝ) : EReal) := by
    rw [score_coe r ha, score_coe r ha, ← EReal.coe_add, ← add_div, sub_self, Real.exp_zero]
  rw [he]
  refine max_eq_right (hc.trans (EReal.coe_le_coe_iff.mpr ?_))
  have h1 := score_first_ge r ha
  rw [sub_self, Real.exp_zero] at h1
  have h2 : 0 ≤ Real.exp (r b - r a) / total r a := (div_pos (Real.exp_pos _) (total_pos r)).le
  rw [add_div]
  linarith

/-- The greatest score over the clipped sum is the two logits' softmax at the greatest. -/
theorem weight_first (ha : IsFirst (fun e => (r e : EReal)) a) (hc : c ≤ ((1 / 16 : ℝ) : EReal)) :
    Ideal.div (score (fun e => (r e : EReal)) a)
        (max c (score (fun e => (r e : EReal)) a + score (fun e => (r e : EReal)) b))
      = Ideal.div 1 (1 + Ideal.exp ((r b : EReal) - (r a : EReal))) := by
  have hp : 0 < 1 + Real.exp (r b - r a) := by have := Real.exp_pos (r b - r a); linarith
  have ht := total_pos r (a := a)
  have h1 : (1 : EReal) + ((Real.exp (r b - r a) : ℝ) : EReal) = ((1 + Real.exp (r b - r a) : ℝ) : EReal) := by
    rw [EReal.coe_add, EReal.coe_one]
  rw [clip_eq r ha hc, Ideal.div_coe (div_pos hp ht).ne', score_coe r ha, ← EReal.coe_mul, sub_self, Real.exp_zero,
    ← EReal.coe_sub, Ideal.exp_coe, h1, Ideal.div_coe hp.ne', one_mul]
  refine congrArg _ ?_
  field_simp

/-- The second score over the clipped sum is one minus that. -/
theorem weight_second (ha : IsFirst (fun e => (r e : EReal)) a) (hc : c ≤ ((1 / 16 : ℝ) : EReal)) :
    Ideal.div (score (fun e => (r e : EReal)) b)
        (max c (score (fun e => (r e : EReal)) a + score (fun e => (r e : EReal)) b))
      = 1 - Ideal.div 1 (1 + Ideal.exp ((r b : EReal) - (r a : EReal))) := by
  have hp : 0 < 1 + Real.exp (r b - r a) := by have := Real.exp_pos (r b - r a); linarith
  have ht := total_pos r (a := a)
  have h1 : (1 : EReal) + ((Real.exp (r b - r a) : ℝ) : EReal) = ((1 + Real.exp (r b - r a) : ℝ) : EReal) := by
    rw [EReal.coe_add, EReal.coe_one]
  rw [clip_eq r ha hc, Ideal.div_coe (div_pos hp ht).ne', score_coe r ha, ← EReal.coe_mul,
    ← EReal.coe_sub, Ideal.exp_coe, h1, Ideal.div_coe hp.ne', one_mul, ← EReal.coe_one, ← EReal.coe_sub]
  refine congrArg _ ?_
  field_simp
  ring

end real

/-- The two positions listed by score are the two listed by logit. -/
theorem pos_score (r : Fin 16 → ℝ) : pos (score fun e => (r e : EReal)) = pos fun e => (r e : EReal) :=
  pos_congr fun e e' => score_lt_iff r (isFirst_pos _) e e'

/-- The two greatest scores over their clipped sum are the row's weights. -/
theorem weight_eq (r : Fin 16 → ℝ) {c : EReal} (hc : c ≤ ((1 / 16 : ℝ) : EReal)) (j : Fin 2) :
    Ideal.div (score (fun e => (r e : EReal)) (pos (fun e => (r e : EReal)) j))
        (max c (∑ j', score (fun e => (r e : EReal)) (pos (fun e => (r e : EReal)) j')))
      = wtOf (fun e => (r e : EReal)) j := by
  rw [Fin.sum_univ_two]
  match j with
  | 0 => exact (weight_first r (isFirst_pos _) hc).trans (if_pos rfl).symm
  | 1 => exact (weight_second r (isFirst_pos _) hc).trans (if_neg (by decide)).symm

end Top2

end
-- ==== Proof.RefRow.lean ====
/-
  What the reference computes for one row: its softmax scores, the two greatest of them with their positions, and those
  two over their clipped sum.
-/
module

public import proofs.«01_k».proof.Proof.Softmax
public import proofs.«01_k».proof.Proof.Gen.ReferenceIdeal
public import Idealize.ShloMosaic.Lib.Pointwise

@[expose] public section

set_option maxRecDepth 16384

noncomputable section

namespace Cert.ReferenceIdeal.Row

open Idealize.ShloMosaic Idealize.ShloMosaic.TcCoe Idealize.SL.Sem
open Cert.ReferenceIdeal Cert.ReferenceIdeal.Gen Top2

/-- The logits of the whole input: the product of every token with every row of the weights. -/
def logits (x : FVec Ideal S4x2048x2048 .f32) (w : FVec Ideal S16x2048 .f32) : FVec Ideal S4x2048x16 .f32 :=
  Host.dotGeneral dot_S4x2048x2048_S16x2048_S4x2048x16_2_1_01_0_n_n none x w

/-- The exponentials of the logits, each less its row's maximum. -/
def exps (l : FVec Ideal S4x2048x16 .f32) : FVec Ideal S4x2048x16 .f32 :=
  Host.exp (subf l (broadcastInDim S4x2048x16 ![0, 1, 2] bcast_S4x2048x1_S4x2048x16_0_1_2 (broadcastInDim S4x2048x1 ![0, 1] bcast_S4x2048_S4x2048x1_0_1 (maximumf (broadcastInDim S4x2048 ![] bcast_S_S4x2048 (constant S_ .f32 0xFF800000#32)) (Host.reduce FloatOps.maximumf l (constant S_ .f32 0xFF800000#32) reducesTo_S4x2048x16_S4x2048_d2 h_S_)))))

/-- The scores: the exponentials, each divided by its row's sum. -/
def scores (l : FVec Ideal S4x2048x16 .f32) : FVec Ideal S4x2048x16 .f32 :=
  Host.divf (exps l) (broadcastInDim S4x2048x16 ![0, 1, 2] bcast_S4x2048x1_S4x2048x16_0_1_2 (broadcastInDim S4x2048x1 ![0, 1] bcast_S4x2048_S4x2048x1_0_1 (Host.reduceAdd (exps l) (constant S_ .f32 0x00000000#32) reducesTo_S4x2048x16_S4x2048_d2 h_S_)))

/-- The two greatest scores of each row, with their positions. -/
def best (p : FVec Ideal S4x2048x16 .f32) : FVec Ideal S4x2048x2 .f32 × IVec S4x2048x2 32 :=
  Host.topK S4x2048x2 2 (FloatOps.cmpfTotal .gt) p sliceFits_S4x2048x16_S4x2048x2

/-- The two greatest scores divided by their sum, the sum clipped from below. -/
def weights (v : FVec Ideal S4x2048x2 .f32) : FVec Ideal S4x2048x2 .f32 :=
  Host.divf v (broadcastInDim S4x2048x2 ![0, 1, 2] bcast_S4x2048x1_S4x2048x2_0_1_2 (maximumf (broadcastInDim S4x2048x1 ![] bcast_S_S4x2048x1 (id (constant S_ .f32 0x3089705F#32))) (broadcastInDim S4x2048x1 ![0, 1] bcast_S4x2048_S4x2048x1_0_1 (Host.reduceAdd v (constant S_ .f32 0x00000000#32) reducesTo_S4x2048x2_S4x2048_d2 h_S_))))

variable (i : Fin 4) (n : Fin 2048)

/-- The pattern of `-∞` denotes `⊥`. -/
theorem negInf : Ideal.ofBits .f32 0xFF800000#32 = ⊥ := by simp [Ideal.ofBits, Ideal.ieee]

/-- A logit is the product of the token with a row of the weights. -/
theorem logits_apply (x : FVec Ideal S4x2048x2048 .f32) (w : FVec Ideal S16x2048 .f32) (e : Fin 16) :
    logits x w (ix3 i n e) = ∑ k : Fin 2048, x (ix3 i n k) * w (ix2 e k) := by
  pointwise [logits]

/-- Each row's exponentials. -/
theorem exps_apply (l : FVec Ideal S4x2048x16 .f32) (e : Fin 16) :
    exps l (ix3 i n e) = expOf (fun e => l (ix3 i n e)) e := by
  pointwise [exps]
  rw [negInf]
  rfl

/-- Each row's scores. -/
theorem scores_apply (l : FVec Ideal S4x2048x16 .f32) (e : Fin 16) :
    scores l (ix3 i n e) = score (fun e => l (ix3 i n e)) e := by
  pointwise [scores]
  simp only [exps_apply]
  rfl

/-- Each row's weights: its entries over their clipped sum. -/
theorem weights_apply (v : FVec Ideal S4x2048x2 .f32) (j : Fin 2) :
    weights v (ix3 i n j) = Ideal.div (v (ix3 i n j)) (max (Ideal.ofBits .f32 0x3089705F#32) (∑ j', v (ix3 i n j'))) := by
  pointwise [weights]
  rfl

/-- Moving along the last axis changes the last coordinate. -/
theorem along_apply (j k : Fin 16) : (ix3 i n j : S4x2048x16.Idx).along 2 k = ix3 i n k := by
  funext a
  match a with
  | 0 => rfl
  | 1 => rfl
  | 2 => rfl

/-- The order the reference sorts by is that of the extended reals. -/
theorem order_eq (a b : EReal) : (FloatOps.cmpfTotal (F := Ideal) (φ := .f32) .gt a b == 1#1) = decide (b < a) := by
  rw [Ideal.cmpfTotal_def]
  show (BitVec.ofBool (decide (b < a)) == 1#1) = decide (b < a)
  cases decide (b < a) <;> rfl

/-- The two greatest of each row, in order. -/
theorem best_fst (p : FVec Ideal S4x2048x16 .f32) (j : Fin 2) :
    (best p).1 (ix3 i n j) = p (ix3 i n (pos (fun e => p (ix3 i n e)) j)) := by
  unfold best Host.topK Host.sort2
  pointwise
  simp only [along_apply, order_eq]
  rfl

/-- Their positions. -/
theorem best_snd (p : FVec Ideal S4x2048x16 .f32) (j : Fin 2) :
    (best p).2 (ix3 i n j) = idxOf (fun e => p (ix3 i n e)) j := by
  unfold best Host.topK Host.sort2
  pointwise
  simp only [along_apply, order_eq]
  rfl

/-- The reference's lower clip is at most a sixteenth. -/
theorem clip_le : Ideal.ofBits .f32 0x3089705F#32 ≤ ((1 / 16 : ℝ) : EReal) := by
  simp [Ideal.ofBits, Ideal.ieee]
  rw [← EReal.coe_mul, EReal.coe_le_coe_iff]
  norm_num

end Cert.ReferenceIdeal.Row

end
-- ==== Proof.Finite.lean ====
/-
  The precondition, read at an entry: every entry of the two inputs is a real number.
-/
module

public import proofs.«01_k».proof.Pre_finite
public import proofs.«01_k».proof.Proof.Gen.Pre_finite
public import proofs.«01_k».proof.Proof.Softmax
public import Idealize.ShloMosaic.Lib.ReduceAll
public import Idealize.ShloMosaic.Lib.Pointwise

@[expose] public section

set_option maxRecDepth 16384

noncomputable section

namespace Cert.Pre_finite.Real

open Idealize.ShloMosaic Cert.Pre_finite Cert.Pre_finite.Gen

/-- A value whose magnitude is below `⊤` is a real. -/
theorem real_of_abs (a : EReal) (h : max a (-a) < ⊤) : ∃ r : ℝ, a = (r : EReal) := by
  refine ⟨a.toReal, (EReal.coe_toReal ?_ ?_).symm⟩
  · rintro rfl; simp at h
  · rintro rfl; simp at h

/-- The pattern of `∞` denotes `⊤`. -/
theorem posInf : Ideal.ofBits .f32 0x7F800000#32 = ⊤ := by simp [Ideal.ofBits, Ideal.ieee]

/-- A comparison of a magnitude with `∞` that came out true says the value is a real. -/
theorem real_of_cmp (a : EReal) (h : Ideal.cmp .olt (max a (-a)) (Ideal.ofBits .f32 0x7F800000#32) = 1#1) :
    ∃ r : ℝ, a = (r : EReal) := by
  rw [posInf] at h
  refine real_of_abs a ?_
  by_contra hn
  simp [Ideal.cmp, hn] at h

variable {x : FVec Ideal S4x2048x2048 .f32} {w : FVec Ideal S16x2048 .f32}

/-- The precondition says that every entry of both inputs is a real. -/
theorem both (h : fn (F := Ideal) x w = fun _ => 1#1) :
    (∀ i, ∃ r : ℝ, x i = (r : EReal)) ∧ (∀ i, ∃ r : ℝ, w i = (r : EReal)) := by
  have h0 := congrFun h ix0
  dsimp only [fn] at h0
  obtain ⟨hx, hw⟩ := (by decide : ∀ a b : BitVec 1, IntOp.andi a b = 1#1 → a = 1#1 ∧ b = 1#1) _ _ h0
  haveI : Subsingleton S_.Idx := ⟨fun a b => funext fun d => d.elim0⟩
  exact ⟨fun i => real_of_cmp _ (Host.reduce_andi_all _ _ _ _ _ hx i),
    fun i => real_of_cmp _ (Host.reduce_andi_all _ _ _ _ _ hw i)⟩

/-- A finite sum of products of reals is a real. -/
theorem sum_mul_real {n : ℕ} (a b : Fin n → EReal) (ha : ∀ k, ∃ r : ℝ, a k = (r : EReal))
    (hb : ∀ k, ∃ r : ℝ, b k = (r : EReal)) : ∃ r : ℝ, ∑ k, a k * b k = (r : EReal) := by
  choose f hf using ha
  choose g hg using hb
  refine ⟨∑ k, f k * g k, ?_⟩
  rw [Top2.sum_real]
  exact Finset.sum_congr rfl fun k _ => by rw [hf, hg, EReal.coe_mul]

end Cert.Pre_finite.Real

end
-- ==== Proof.Equation.lean ====
/-
  The equation: for real inputs the reference's two results are, at every index, the positions and the weights of the
  input's row of logits.
-/
module

public import proofs.«01_k».proof.Proof.RefRow
public import proofs.«01_k».proof.Proof.Finite

@[expose] public section

noncomputable section

namespace Cert.ReferenceIdeal.Equation

open Idealize.ShloMosaic Cert.ReferenceIdeal Cert.ReferenceIdeal.Row Top2

variable (x : FVec Ideal S4x2048x2048 .f32) (w : FVec Ideal S16x2048 .f32)
  (hx : ∀ i, ∃ r : ℝ, x i = (r : EReal)) (hw : ∀ i, ∃ r : ℝ, w i = (r : EReal)) (i : Fin 4) (n : Fin 2048)

/-- A row's logits: the token's products with the rows of the weights. -/
def rowLogit (e : Fin 16) : EReal := ∑ k : Fin 2048, x (ix3 i n k) * w (ix2 e k)

/-- A row of the logits array holds the row's logits. -/
theorem logits_row : (fun e => logits x w (ix3 i n e)) = rowLogit x w i n := funext fun e => logits_apply i n x w e

/-- A row of the scores array holds the scores of the row's logits. -/
theorem scores_row : (fun e => scores (logits x w) (ix3 i n e)) = score (rowLogit x w i n) := by
  funext e
  rw [scores_apply, logits_row]

include hx hw

/-- Real inputs have real logits. -/
theorem rowLogit_real : ∃ r : Fin 16 → ℝ, rowLogit x w i n = fun e => (r e : EReal) := by
  choose r hr using fun e : Fin 16 => Pre_finite.Real.sum_mul_real (fun k => x (ix3 i n k)) (fun k => w (ix2 e k))
    (fun _ => hx _) (fun _ => hw _)
  exact ⟨r, funext hr⟩

/-- The reference's indices: the positions of the row's two greatest logits. -/
theorem indices_apply (j : Fin 2) : (best (scores (logits x w))).2 (ix3 i n j) = idxOf (rowLogit x w i n) j := by
  rw [best_snd, scores_row]
  obtain ⟨r, hr⟩ := rowLogit_real x w hx hw i n
  rw [hr, idxOf, idxOf, pos_score]

/-- The reference's weights: those of the row's two greatest logits. -/
theorem weights_apply (j : Fin 2) :
    weights (best (scores (logits x w))).1 (ix3 i n j) = wtOf (rowLogit x w i n) j := by
  have hp : ∀ j, (best (scores (logits x w))).1 (ix3 i n j)
      = score (rowLogit x w i n) (pos (rowLogit x w i n) j) := by
    intro j
    obtain ⟨r, hr⟩ := rowLogit_real x w hx hw i n
    have hs := congrFun (scores_row x w i n)
    rw [best_fst, scores_row, hs, hr, pos_score]
  rw [Row.weights_apply]
  simp only [hp]
  obtain ⟨r, hr⟩ := rowLogit_real x w hx hw i n
  rw [hr]
  exact weight_eq r clip_le j

end Cert.ReferenceIdeal.Equation

end
-- ==== Proof.lean ====
/-
  The certificate. Both programs end with their arguments unchanged and every semaphore at zero, whatever the values are.
  From inputs whose entries are all real the kernel and the reference end with the same two results: the positions of
  each row's two greatest logits, and those two logits' softmax.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import Idealize.ShloMosaic.Adequacy
public import Idealize.ShloMosaic.Init
public import proofs.«01_k».proof.Proof.Gen.ReferenceIdeal.Run
public import Idealize.ShloMosaic.Lib.Quiescent
public import proofs.«01_k».proof.Proof.KernelValue
public import proofs.«01_k».proof.Proof.Equation

@[expose] public section

noncomputable section

namespace Cert.Proof

open Idealize.ShloMosaic Idealize.SL.Sem

/-- The reference ends with its arguments unchanged and every semaphore at zero. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) := by
  exact (θ_run Cert.ReferenceIdeal.defs _ _).mono
    (fun r h => ⟨fun c => ⟨(h c).2.2.1, (h c).2.2.2⟩, Idealize.ShloMosaic.sem_eq_zero_of_no_sems (by decide) r.2⟩)
    (Cert.ReferenceIdeal.Value.run (F := Ideal) m g)

section value

variable (x : FVec Ideal Cert.ReferenceIdeal.S4x2048x2048 .f32) (w : FVec Ideal Cert.ReferenceIdeal.S16x2048 .f32)

/-- Both programs write the same sum for a logit. -/
theorem inLogit_eq : Cert.KernelIdeal.Value.inLogit x w = Cert.ReferenceIdeal.Equation.rowLogit x w := rfl

variable (m : (ℓ : Loc Cert.KernelIdeal.nD Cert.KernelIdeal.τ Cert.KernelIdeal.sig) → Buf (Elt Ideal) ℓ)
  (hpre : Cert.Pre_KernelIdeal_finite m)

/-- Core `c`'s tokens. -/
abbrev argX (c : Dev Cert.KernelIdeal.nD) : FVec Ideal Cert.ReferenceIdeal.S4x2048x2048 .f32 :=
  m ((c.tc : Thread Cert.KernelIdeal.nD Cert.KernelIdeal.τ).loc Cert.KernelIdeal.main_arg0)
/-- Core `c`'s weights. -/
abbrev argW (c : Dev Cert.KernelIdeal.nD) : FVec Ideal Cert.ReferenceIdeal.S16x2048 .f32 :=
  m ((c.tc : Thread Cert.KernelIdeal.nD Cert.KernelIdeal.τ).loc Cert.KernelIdeal.main_arg1)

include hpre

/-- No logit is `⊥`. -/
theorem logit_ne (c : Dev Cert.KernelIdeal.nD) (i : Fin 4) (n : Fin 2048) (e : Fin 16) :
    Cert.KernelIdeal.Value.inLogit (argX m c) (argW m c) i n e ≠ ⊥ := by
  obtain ⟨hx, hw⟩ := Cert.Pre_finite.Real.both (hpre c)
  obtain ⟨r, hr⟩ := Cert.ReferenceIdeal.Equation.rowLogit_real (argX m c) (argW m c) hx hw i n
  rw [inLogit_eq, hr]
  exact EReal.coe_ne_bot _

/-- The kernel's indices are the reference's. -/
theorem indices (c : Dev Cert.KernelIdeal.nD) :
    Cert.KernelIdeal.Run.join (Cert.KernelIdeal.Run.arr m c 3) (Cert.KernelIdeal.Run.arr m c 4)
      = (Cert.ReferenceIdeal.Row.best (Cert.ReferenceIdeal.Row.scores (Cert.ReferenceIdeal.Row.logits (argX m c) (argW m c)))).2 := by
  obtain ⟨hx, hw⟩ := Cert.Pre_finite.Real.both (hpre c)
  funext y
  rw [eq_ix3 y]
  exact (Cert.KernelIdeal.Value.indices_apply m (logit_ne m hpre) c _ _ _).trans
    (Cert.ReferenceIdeal.Equation.indices_apply (argX m c) (argW m c) hx hw _ _ _).symm

/-- The kernel's weights are the reference's. -/
theorem weights (c : Dev Cert.KernelIdeal.nD) :
    Cert.KernelIdeal.Run.join (Cert.KernelIdeal.Run.arr m c 5) (Cert.KernelIdeal.Run.arr m c 6)
      = Cert.ReferenceIdeal.Row.weights (Cert.ReferenceIdeal.Row.best (Cert.ReferenceIdeal.Row.scores (Cert.ReferenceIdeal.Row.logits (argX m c) (argW m c)))).1 := by
  obtain ⟨hx, hw⟩ := Cert.Pre_finite.Real.both (hpre c)
  funext y
  rw [eq_ix3 y]
  exact (Cert.KernelIdeal.Value.weights_apply m (logit_ne m hpre) c _ _ _).trans
    (Cert.ReferenceIdeal.Equation.weights_apply (argX m c) (argW m c) hx hw _ _ _).symm

end value

/-- The value claim: from real inputs both programs end with the same indices and the same weights. -/
theorem value : Cert.algebraic_KernelIdeal_ReferenceIdeal_pre_finite (hKernelIdeal := Cert.KernelIdeal.Gen.facts) (hReferenceIdeal := Cert.ReferenceIdeal.Gen.facts) (hPre_finite := Cert.Pre_finite.Gen.facts) := by
  intro m g m' g' hpre hagree
  refine ⟨_, _, Cert.KernelIdeal.Run.run m g, (θ_run Cert.ReferenceIdeal.defs _ _).mono (fun r h c => ?_)
    (Cert.ReferenceIdeal.Value.run (F := Ideal) m' g')⟩
  obtain ⟨h0, h1, h2, h3⟩ := h c
  refine ⟨?_, ?_, h2, h3⟩
  · rw [h0, (hagree c).1, (hagree c).2]
    exact (indices m hpre c).symm
  · rw [h1, (hagree c).1, (hagree c).2]
    exact (weights m hpre c).symm

/-- All the claims. -/
theorem claim : Cert.Claim := ⟨Cert.Kernel.Gen.facts, Cert.KernelIdeal.Gen.facts, Cert.ReferenceIdeal.Gen.facts, Cert.Pre_finite.Gen.facts,
  fun m g _ => Cert.Kernel.Gen.frame m g, fun m g _ => Cert.KernelIdeal.Gen.frame m g, fun m g _ => Cert.KernelIdeal.Gen.frame m g,
  fun m g _ => frame_reference m g, fun m g _ => frame_reference m g, trivial, value⟩

end Cert.Proof

end
